-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_hw" .f32 0x37A72F05#32 ((1 / 50176 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x384x224x224 : Shape := ⟨4, ![4, 384, 224, 224]⟩
abbrev S384x1x3x3 : Shape := ⟨4, ![384, 1, 3, 3]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel
  bcast_S_S384x1x3x3 : S_.BroadcastsInDim S384x1x3x3 (![] : Fin 0 → Fin S384x1x3x3.rank)
  reducesTo_S384x1x3x3_S_d0_1_2_3 : S384x1x3x3.ReducesTo [0, 1, 2, 3] S_

variable [Facts]

def fn {F : FTy → Type} [FloatOps F] (main_arg0 : FVec F S4x384x224x224 .f32) (main_arg1 : FVec F S384x1x3x3 .f32) : IVec S_ 1 :=
  let main_v0 : FVec F S4x384x224x224 .f32 := Host.absf main_arg0
  let main_cst : FVec F S_ .f32 := constant S_ .f32 0x7F800000#32
  let main_v1 : FVec F S4x384x224x224 .f32 := broadcastInDim S4x384x224x224 ![] bcast_S_S4x384x224x224 main_cst
  let main_v2 : IVec S4x384x224x224 1 := cmpf .olt main_v0 main_v1
  let main_c : IVec S_ 1 := constantI S_ 1 1#1
  let main_v3 : IVec S_ 1 := (fun x v => Host.reduce IntOp.andi x v reducesTo_S4x384x224x224_S_d0_1_2_3 h_S_) main_v2 main_c
  let main_v4 : FVec F S384x1x3x3 .f32 := Host.absf main_arg1
  let main_cst_0 : FVec F S_ .f32 := constant S_ .f32 0x7F800000#32
  let main_v5 : FVec F S384x1x3x3 .f32 := broadcastInDim S384x1x3x3 ![] bcast_S_S384x1x3x3 main_cst_0
  let main_v6 : IVec S384x1x3x3 1 := cmpf .olt main_v4 main_v5
  let main_c_1 : IVec S_ 1 := constantI S_ 1 1#1
  let main_v7 : IVec S_ 1 := (fun x v => Host.reduce IntOp.andi x v reducesTo_S384x1x3x3_S_d0_1_2_3 h_S_) main_v6 main_c_1
  let main_v8 : IVec S_ 1 := andi main_v3 main_v7
  main_v8
-- ==== Kernel.lean ====
abbrev S4x384x224x224 : Shape := ⟨4, ![4, 384, 224, 224]⟩
abbrev S384x1x3x3 : Shape := ⟨4, ![384, 1, 3, 3]⟩
abbrev S384x9 : Shape := ⟨2, ![384, 9]⟩
abbrev S4x24x1x16 : Shape := ⟨4, ![4, 24, 1, 16]⟩
abbrev S4x384 : Shape := ⟨2, ![4, 384]⟩
abbrev S1x16x224x224 : Shape := ⟨4, ![1, 16, 224, 224]⟩
abbrev S16x9 : Shape := ⟨2, ![16, 9]⟩
abbrev S1x1x1x16 : Shape := ⟨4, ![1, 1, 1, 16]⟩
abbrev S16x224x224 : Shape := ⟨3, ![16, 224, 224]⟩
abbrev S16x224 : Shape := ⟨2, ![16, 224]⟩
abbrev S16 : Shape := ⟨1, ![16]⟩
abbrev S16x1 : Shape := ⟨2, ![16, 1]⟩
abbrev S16x1x224 : Shape := ⟨3, ![16, 1, 224]⟩
abbrev S4x384x1 : Shape := ⟨3, ![4, 384, 1]⟩
abbrev S4x1x384 : Shape := ⟨3, ![4, 1, 384]⟩
abbrev S4x384x384 : Shape := ⟨3, ![4, 384, 384]⟩
abbrev S4 : Shape := ⟨1, ![4]⟩
abbrev S4x1 : Shape := ⟨2, ![4, 1]⟩
abbrev S1x1x224x224 : Shape := ⟨4, ![1, 1, 224, 224]⟩
abbrev S224x224 : Shape := ⟨2, ![224, 224]⟩
abbrev S1x1 : Shape := ⟨2, ![1, 1]⟩

abbrev nBuf : Space → Nat
  | .hbm => 7
  | .vmem => 12
  | .smem => 1
  | _ => 0

abbrev bufTy : (tb : Table) → Fin (tcTables nBuf tb) → BufTy
  | .hbm, ⟨0, _⟩ => ⟨S4x384x224x224, .f32⟩
  | .hbm, ⟨1, _⟩ => ⟨S384x1x3x3, .f32⟩
  | .hbm, ⟨2, _⟩ => ⟨S384x9, .f32⟩
  | .hbm, ⟨3, _⟩ => ⟨S4x24x1x16, .f32⟩
  | .hbm, ⟨4, _⟩ => ⟨S4x384, .f32⟩
  | .hbm, ⟨5, _⟩ => ⟨S4x384, .f32⟩
  | .hbm, ⟨6, _⟩ => ⟨S4x384x224x224, .f32⟩
  | .local _ .vmem, ⟨0, _⟩ => ⟨S1x16x224x224, .f32⟩
  | .local _ .vmem, ⟨1, _⟩ => ⟨S1x16x224x224, .f32⟩
  | .local _ .vmem, ⟨2, _⟩ => ⟨S16x9, .f32⟩
  | .local _ .vmem, ⟨3, _⟩ => ⟨S16x9, .f32⟩
  | .local _ .vmem, ⟨4, _⟩ => ⟨S1x1x1x16, .f32⟩
  | .local _ .vmem, ⟨5, _⟩ => ⟨S1x1x1x16, .f32⟩
  | .local _ .vmem, ⟨6, _⟩ => ⟨S4x384, .f32⟩
  | .local _ .vmem, ⟨7, _⟩ => ⟨S4x384, .f32⟩
  | .local _ .vmem, ⟨8, _⟩ => ⟨S1x16x224x224, .f32⟩
  | .local _ .vmem, ⟨9, _⟩ => ⟨S1x16x224x224, .f32⟩
  | .local _ .vmem, ⟨10, _⟩ => ⟨S1x16x224x224, .f32⟩
  | .local _ .vmem, ⟨11, _⟩ => ⟨S1x16x224x224, .f32⟩
  | .local _ .smem, ⟨0, _⟩ => ⟨S4x384, .f32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨2, ![4, 24], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

abbrev stage1_0 : Fin 1 → Memref sig .tc .vmem S4x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![4, 24], ![false, false]⟩

def k2_off1 (i : grid2.Coords) (c0_i32 : BitVec 32) : Fin 2 → Nat :=
  let arg0 : BitVec 32 := BitVec.ofNat 32 (i 0).val
  let v4 : Index := Scalar.indexCast arg0
  let arg1 : BitVec 32 := BitVec.ofNat 32 (i 1).val
  let c16_i32 : BitVec 32 := 16#32
  let v2 : BitVec 32 := Scalar.muli arg1 c16_i32
  let v3 : BitVec 32 := Scalar.addi v2 c0_i32
  let v5 : Index := Scalar.indexCast v3
  ![v4.toNat, v5.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 1 → Memref sig .tc .smem S4x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x16x224x224 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x16x224x224 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "inv_hw" => some ((1 / 50176 : ℝ) : EReal)
  | _ => none
-- ==== ReferenceIdeal.lean ====
abbrev S4x384x224x224 : Shape := ⟨4, ![4, 384, 224, 224]⟩
abbrev S384x1x3x3 : Shape := ⟨4, ![384, 1, 3, 3]⟩
abbrev S_ : Shape := ⟨0, ![]⟩
abbrev S4x384x226x226 : Shape := ⟨4, ![4, 384, 226, 226]⟩
abbrev S384x1x1x1 : Shape := ⟨4, ![384, 1, 1, 1]⟩
abbrev S384x1x1 : Shape := ⟨3, ![384, 1, 1]⟩
abbrev S1x384x1x1 : Shape := ⟨4, ![1, 384, 1, 1]⟩
abbrev S4x384 : Shape := ⟨2, ![4, 384]⟩
abbrev S4x192 : Shape := ⟨2, ![4, 192]⟩
abbrev S4 : Shape := ⟨1, ![4]⟩
abbrev S4x1 : Shape := ⟨2, ![4, 1]⟩
abbrev S4x192x1 : Shape := ⟨3, ![4, 192, 1]⟩
abbrev S4x192x2 : Shape := ⟨3, ![4, 192, 2]⟩
abbrev S4x384x1x1 : Shape := ⟨4, ![4, 384, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S384x1x3x3, .f32⟩
  | .hbm, ⟨2, _⟩ => ⟨S_, .i32⟩
  | .hbm, ⟨3, _⟩ => ⟨S_, .f32⟩
  | .hbm, ⟨4, _⟩ => ⟨S4x384x226x226, .f32⟩
  | .hbm, ⟨5, _⟩ => ⟨S4x384x224x224, .f32⟩
  | .hbm, ⟨6, _⟩ => ⟨S384x1x1x1, .f32⟩
  | .hbm, ⟨7, _⟩ => ⟨S384x1x1, .f32⟩
  | .hbm, ⟨8, _⟩ => ⟨S1x384x1x1, .f32⟩
  | .hbm, ⟨9, _⟩ => ⟨S4x384x224x224, .f32⟩
  | .hbm, ⟨10, _⟩ => ⟨S4x384x224x224, .f32⟩
  | .hbm, ⟨11, _⟩ => ⟨S_, .f32⟩
  | .hbm, ⟨12, _⟩ => ⟨S4x384x224x224, .f32⟩
  | .hbm, ⟨13, _⟩ => ⟨S4x384x224x224, .f32⟩
  | .hbm, ⟨14, _⟩ => ⟨S4x384x224x224, .f32⟩
  | .hbm, ⟨15, _⟩ => ⟨S384x1x1x1, .f32⟩
  | .hbm, ⟨16, _⟩ => ⟨S384x1x1, .f32⟩
  | .hbm, ⟨17, _⟩ => ⟨S1x384x1x1, .f32⟩
  | .hbm, ⟨18, _⟩ => ⟨S4x384x224x224, .f32⟩
  | .hbm, ⟨19, _⟩ => ⟨S4x384x224x224, .f32⟩
  | .hbm, ⟨20, _⟩ => ⟨S4x384x224x224, .f32⟩
  | .hbm, ⟨21, _⟩ => ⟨S4x384x224x224, .f32⟩
  | .hbm, ⟨22, _⟩ => ⟨S384x1x1x1, .f32⟩
  | .hbm, ⟨23, _⟩ => ⟨S384x1x1, .f32⟩
  | .hbm, ⟨24, _⟩ => ⟨S1x384x1x1, .f32⟩
  | .hbm, ⟨25, _⟩ => ⟨S4x384x224x224, .f32⟩
  | .hbm, ⟨26, _⟩ => ⟨S4x384x224x224, .f32⟩
  | .hbm, ⟨27, _⟩ => ⟨S4x384x224x224, .f32⟩
  | .hbm, ⟨28, _⟩ => ⟨S4x384x224x224, .f32⟩
  | .hbm, ⟨29, _⟩ => ⟨S384x1x1x1, .f32⟩
  | .hbm, ⟨30, _⟩ => ⟨S384x1x1, .f32⟩
  | .hbm, ⟨31, _⟩ => ⟨S1x384x1x1, .f32⟩
  | .hbm, ⟨32, _⟩ => ⟨S4x384x224x224, .f32⟩
  | .hbm, ⟨33, _⟩ => ⟨S4x384x224x224, .f32⟩
  | .hbm, ⟨34, _⟩ => ⟨S4x384x224x224, .f32⟩
  | .hbm, ⟨35, _⟩ => ⟨S4x384x224x224, .f32⟩
  | .hbm, ⟨36, _⟩ => ⟨S384x1x1x1, .f32⟩
  | .hbm, ⟨37, _⟩ => ⟨S384x1x1, .f32⟩
  | .hbm, ⟨38, _⟩ => ⟨S1x384x1x1, .f32⟩
  | .hbm, ⟨39, _⟩ => ⟨S4x384x224x224, .f32⟩
  | .hbm, ⟨40, _⟩ => ⟨S4x384x224x224, .f32⟩
  | .hbm, ⟨41, _⟩ => ⟨S4x384x224x224, .f32⟩
  | .hbm, ⟨42, _⟩ => ⟨S4x384x224x224, .f32⟩
  | .hbm, ⟨43, _⟩ => ⟨S384x1x1x1, .f32⟩
  | .hbm, ⟨44, _⟩ => ⟨S384x1x1, .f32⟩
  | .hbm, ⟨45, _⟩ => ⟨S1x384x1x1, .f32⟩
  | .hbm, ⟨46, _⟩ => ⟨S4x384x224x224, .f32⟩
  | .hbm, ⟨47, _⟩ => ⟨S4x384x224x224, .f32⟩
  | .hbm, ⟨48, _⟩ => ⟨S4x384x224x224, .f32⟩
  | .hbm, ⟨49, _⟩ => ⟨S4x384x224x224, .f32⟩
  | .hbm, ⟨50, _⟩ => ⟨S384x1x1x1, .f32⟩
  | .hbm, ⟨51, _⟩ => ⟨S384x1x1, .f32⟩
  | .hbm, ⟨52, _⟩ => ⟨S1x384x1x1, .f32⟩
  | .hbm, ⟨53, _⟩ => ⟨S4x384x224x224, .f32⟩
  | .hbm, ⟨54, _⟩ => ⟨S4x384x224x224, .f32⟩
  | .hbm, ⟨55, _⟩ => ⟨S4x384x224x224, .f32⟩
  | .hbm, ⟨56, _⟩ => ⟨S4x384x224x224, .f32⟩
  | .hbm, ⟨57, _⟩ => ⟨S384x1x1x1, .f32⟩
  | .hbm, ⟨58, _⟩ => ⟨S384x1x1, .f32⟩
  | .hbm, ⟨59, _⟩ => ⟨S1x384x1x1, .f32⟩
  | .hbm, ⟨60, _⟩ => ⟨S4x384x224x224, .f32⟩
  | .hbm, ⟨61, _⟩ => ⟨S4x384x224x224, .f32⟩
  | .hbm, ⟨62, _⟩ => ⟨S4x384x224x224, .f32⟩
  | .hbm, ⟨63, _⟩ => ⟨S4x384x224x224, .f32⟩
  | .hbm, ⟨64, _⟩ => ⟨S384x1x1x1, .f32⟩
  | .hbm, ⟨65, _⟩ => ⟨S384x1x1, .f32⟩
  | .hbm, ⟨66, _⟩ => ⟨S1x384x1x1, .f32⟩
  | .hbm, ⟨67, _⟩ => ⟨S4x384x224x224, .f32⟩
  | .hbm, ⟨68, _⟩ => ⟨S4x384x224x224, .f32⟩
  | .hbm, ⟨69, _⟩ => ⟨S4x384x224x224, .f32⟩
  | .hbm, ⟨70, _⟩ => ⟨S_, .f32⟩
  | .hbm, ⟨71, _⟩ => ⟨S4x384, .f32⟩
  | .hbm, ⟨72, _⟩ => ⟨S_, .f32⟩
  | .hbm, ⟨73, _⟩ => ⟨S4x384, .f32⟩
  | .hbm, ⟨74, _⟩ => ⟨S4x384, .f32⟩
  | .hbm, ⟨75, _⟩ => ⟨S4x192, .f32⟩
  | .hbm, ⟨76, _⟩ => ⟨S4x192, .i32⟩
  | .hbm, ⟨77, _⟩ => ⟨S_, .f32⟩
  | .hbm, ⟨78, _⟩ => ⟨S4, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4x1, .f32⟩
  | .hbm, ⟨83, _⟩ => ⟨S4x192, .f32⟩
  | .hbm, ⟨84, _⟩ => ⟨S4x192, .f32⟩
  | .hbm, ⟨85, _⟩ => ⟨S4x192, .f32⟩
  | .hbm, ⟨86, _⟩ => ⟨S_, .f32⟩
  | .hbm, ⟨87, _⟩ => ⟨S4, .f32⟩
  | .hbm, ⟨88, _⟩ => ⟨S4x1, .f32⟩
  | .hbm, ⟨89, _⟩ => ⟨S4x192, .f32⟩
  | .hbm, ⟨90, _⟩ => ⟨S4x192, .f32⟩
  | .hbm, ⟨91, _⟩ => ⟨S_, .f32⟩
  | .hbm, ⟨92, _⟩ => ⟨S4x384, .f32⟩
  | .hbm, ⟨93, _⟩ => ⟨S4, .i32⟩
  | .hbm, ⟨94, _⟩ => ⟨S4x1, .i32⟩
  | .hbm, ⟨95, _⟩ => ⟨S4x192, .i32⟩
  | .hbm, ⟨96, _⟩ => ⟨S4x192x1, .i32⟩
  | .hbm, ⟨97, _⟩ => ⟨S4x192x1, .i32⟩
  | .hbm, ⟨98, _⟩ => ⟨S4x192x2, .i32⟩
  | .hbm, ⟨99, _⟩ => ⟨S4x384, .f32⟩
  | .hbm, ⟨100, _⟩ => ⟨S4x384x1x1, .f32⟩
  | .hbm, ⟨101, _⟩ => ⟨S4x384x224x224, .f32⟩
  | .hbm, ⟨102, _⟩ => ⟨S4x384x224x224, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_cst_0 : Ref sig .tc := ⟨.hbm, 70, rfl⟩
abbrev main_v65 : Ref sig .tc := ⟨.hbm, 71, rfl⟩
abbrev main_cst_1 : Ref sig .tc := ⟨.hbm, 72, rfl⟩
abbrev main_v66 : Ref sig .tc := ⟨.hbm, 73, rfl⟩
abbrev main_v67 : Ref sig .tc := ⟨.hbm, 74, rfl⟩
abbrev main_values : Ref sig .tc := ⟨.hbm, 75, rfl⟩
abbrev main_indices : Ref sig .tc := ⟨.hbm, 76, rfl⟩
abbrev main_cst_2 : Ref sig .tc := ⟨.hbm, 77, rfl⟩
abbrev main_v68 : Ref sig .tc := ⟨.hbm, 78, rfl⟩
abbrev main_cst_3 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_5 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩

abbrev nD : Nat := 1
abbrev τ : Topo := Topo.v7x

variable {F : FTy → Type} [FloatOps F]
-- ==== Proof.Finite.lean ====
/-
  What the precondition says: where `finite` is true of an image and its taps, every entry of both is a real
  (`image_real`, `taps_real`),
  so both are arrays of reals (`images`, `taps`).
-/
module

public import proofs.«01_k».proof.Defs
public import proofs.«01_k».proof.Proof.Gen.Pre_finite
public import Idealize.ShloMosaic.Lib.Pointwise
public import Idealize.ShloMosaic.Lib.ReduceAll

@[expose] public section

noncomputable section

namespace Cert.Proof.Finite

open Idealize.ShloMosaic Idealize.ShloMosaic.TcCoe Idealize.SL.Sem
open Cert.Pre_finite Cert.Pre_finite.Gen

/-- An extended real whose absolute value is less than infinity is a real. -/
theorem real_of_abs (v : EReal) (h : FloatOps.cmpf (F := Ideal) (φ := .f32) .olt (FloatOps.absf (F := Ideal) (φ := .f32) v)
    (Ideal.ofBits .f32 0x7F800000#32) = 1#1) : ∃ r : ℝ, v = (r : EReal) := by
  have e : Ideal.ofBits .f32 0x7F800000#32 = (⊤ : EReal) := by simp [Ideal.ofBits, Ideal.ieee]
  rw [e] at h
  induction v using EReal.rec with
  | bot => simp [FloatOps.cmpf, FloatOps.absf, Ideal.cmp] at h
  | coe r => exact ⟨r, rfl⟩
  | top => simp [FloatOps.cmpf, FloatOps.absf, Ideal.cmp] at h

variable (x : FVec Ideal S4x384x224x224 .f32) (w : FVec Ideal S384x1x3x3 .f32)

/-- The precondition makes every entry of the image a real. -/
theorem image_real (h : Cert.Pre_finite.fn (F := Ideal) x w = fun _ => 1#1) (i : S4x384x224x224.Idx) :
    ∃ r : ℝ, x i = (r : EReal) := by
  have hz := (IntOp.andi_eq_one.1 (congrFun h (Shape.Idx.first h_S_))).1
  haveI : Subsingleton S_.Idx := ⟨fun a b => funext fun k => k.elim0⟩
  have := Host.reduce_andi_all _ _ _ _ _ hz i
  exact real_of_abs (x i) this

/-- The precondition makes every tap a real. -/
theorem taps_real (h : Cert.Pre_finite.fn (F := Ideal) x w = fun _ => 1#1) (i : S384x1x3x3.Idx) :
    ∃ r : ℝ, w i = (r : EReal) := by
  have hz := (IntOp.andi_eq_one.1 (congrFun h (Shape.Idx.first h_S_))).2
  haveI : Subsingleton S_.Idx := ⟨fun a b => funext fun k => k.elim0⟩
  have := Host.reduce_andi_all _ _ _ _ _ hz i
  exact real_of_abs (w i) this

/-- The image as an array of reals. -/
theorem images (h : Cert.Pre_finite.fn (F := Ideal) x w = fun _ => 1#1) :
    ∃ X : Fin 4 → Fin 384 → Fin 224 → Fin 224 → ℝ, ∀ b ch p q, x (ix4 b ch p q) = (X b ch p q : EReal) := by
  choose X hX using image_real x w h
  exact ⟨fun b ch p q => X (ix4 b ch p q), fun b ch p q => hX _⟩

/-- The taps as nine reals to a channel. -/
theorem taps (h : Cert.Pre_finite.fn (F := Ideal) x w = fun _ => 1#1) :
    ∃ K : Fin 384 → Fin 9 → ℝ, ∀ (ch : Fin 384) (i j : Fin 3) (t : Fin 9), t.val = 3 * i.val + j.val →
      w (ix4 ch (0 : Fin 1) i j) = (K ch t : EReal) := by
  choose T hT using taps_real x w h
  refine ⟨fun ch t => T (ix4 ch (0 : Fin 1) (⟨t.val / 3, by omega⟩ : Fin 3) (⟨t.val % 3, by omega⟩ : Fin 3)), fun ch i j t ht => ?_⟩
  have hi : i = ⟨t.val / 3, by omega⟩ := Fin.ext (by show i.val = t.val / 3; omega)
  have hj : j = ⟨t.val % 3, by omega⟩ := Fin.ext (by show j.val = t.val % 3; omega)
  exact (congrArg₂ (fun a b => w (ix4 ch (0 : Fin 1) a b)) hi hj).trans (hT _)

end Cert.Proof.Finite

end
-- ==== Proof.KernelRun.lean ====
/-
  The run of the idealized kernel: from any memory it ends with its result as the last region leaves it and its
  arguments as they were (`run`).
-/
module

public import proofs.«01_k».proof.Proof.Gen.KernelIdeal.Frame

@[expose] public section

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with the statement, through plain definitions
set_option backward.isDefEq.respectTransparency.types false in
/-- The kernel's program ends with every device's result array at the contents the last region leaves, and with both
    arguments unchanged. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v0 (by decide)),
       (h c _ (mem_uc main_arg0 (by decide))).trans (W5_main_arg0 m ρ c),
       (h c _ (mem_uc main_arg1 (by decide))).trans (W5_main_arg1 m ρ c)⟩)

end Cert.Proof.KernelRun

end
-- ==== Proof.ConvSum.lean ====
/-
  The sum of a 3×3 convolution with zero padding 1 over a 224×224 image of reals, by inclusion and exclusion: each
  tap's shifted image sums to the whole image's total less the row and the column the shift pushes out, plus their
  common corner (`conv_sum`).
-/
module

public import Mathlib.Algebra.BigOperators.Fin
public import Mathlib.Data.Real.Basic
public import Mathlib.Tactic.Ring

@[expose] public section

namespace Cert.Proof.ConvSum

/-- A row of 224 reals framed by a zero on either side: entry `p` of the framed row, zero off it. -/
noncomputable def ext (f : Fin 224 → ℝ) (p : ℕ) : ℝ := if h : 1 ≤ p ∧ p - 1 < 224 then f ⟨p - 1, h.2⟩ else 0

theorem ext_succ (f : Fin 224 → ℝ) (i : Fin 224) : ext f (1 + i.val) = f i := by
  have hi := i.isLt
  rw [ext, dif_pos ⟨by omega, by omega⟩]
  exact congrArg f (Fin.ext (by show 1 + i.val - 1 = i.val; omega))

/-- Read in place, the framed row sums to the row's sum. -/
theorem sum_ext_one (f : Fin 224 → ℝ) : ∑ i : Fin 224, ext f (1 + i.val) = ∑ i, f i :=
  Finset.sum_congr rfl fun i _ => ext_succ f i

/-- Read one place early, it loses the last entry. -/
theorem sum_ext_zero (f : Fin 224 → ℝ) : ∑ i : Fin 224, ext f i.val = ∑ i, f i - f 223 := by
  have h : ∑ i : Fin 223, ext f (i.succ : Fin 224).val = ∑ i : Fin 223, f i.castSucc :=
    Finset.sum_congr rfl fun i _ => by
      rw [← ext_succ f i.castSucc]
      exact congrArg (ext f) (by show i.val + 1 = 1 + i.val; omega)
  have h0 : ext f ((0 : Fin 224).val) = 0 := by rw [ext, dif_neg (by rintro ⟨h, _⟩; exact absurd h (by decide))]
  rw [Fin.sum_univ_succ (n := 223), h0, h, Fin.sum_univ_castSucc (n := 223) f, show (Fin.last 223 : Fin 224) = 223 from rfl]
  ring

/-- Read one place late, it loses the first entry. -/
theorem sum_ext_two (f : Fin 224 → ℝ) : ∑ i : Fin 224, ext f (2 + i.val) = ∑ i, f i - f 0 := by
  have h : ∑ i : Fin 223, ext f (2 + (i.castSucc : Fin 224).val) = ∑ i : Fin 223, f i.succ :=
    Finset.sum_congr rfl fun i _ => by
      rw [← ext_succ f i.succ]
      exact congrArg (ext f) (by show 2 + i.val = 1 + (i.val + 1); omega)
  have h0 : ext f (2 + (Fin.last 223 : Fin 224).val) = 0 := by
    rw [ext, dif_neg (by rintro ⟨_, h⟩; exact absurd h (by decide))]
  rw [Fin.sum_univ_castSucc (n := 223), h0, h, Fin.sum_univ_succ (n := 223) f]
  ring

/-- The image framed by zeros: entry `(p, q)` of the framed image, zero off it. -/
noncomputable def framed (X : Fin 224 → Fin 224 → ℝ) (p q : ℕ) : ℝ :=
  if h : (1 ≤ p ∧ p - 1 < 224) ∧ 1 ≤ q ∧ q - 1 < 224 then X ⟨p - 1, h.1.2⟩ ⟨q - 1, h.2.2⟩ else 0

/-- The framed image is framed row by row and then as a column of rows. -/
theorem framed_eq (X : Fin 224 → Fin 224 → ℝ) (p q : ℕ) : framed X p q = ext (fun h => ext (X h) q) p := by
  unfold framed ext
  by_cases hp : 1 ≤ p ∧ p - 1 < 224 <;> by_cases hq : 1 ≤ q ∧ q - 1 < 224 <;> simp [hp, hq]

/-- A shifted sum of the framed image, rows shifted by `i` and columns by `j`, given what the shifts do to one row. -/
theorem sum_framed (X : Fin 224 → Fin 224 → ℝ) (i j : ℕ) (R C : (Fin 224 → ℝ) → ℝ)
    (hR : ∀ f, ∑ h : Fin 224, ext f (i + h.val) = R f) (hC : ∀ f, ∑ h : Fin 224, ext f (j + h.val) = C f) :
    ∑ h : Fin 224, ∑ w : Fin 224, framed X (i + h.val) (j + w.val) = R fun h => C (X h) := by
  rw [← hR]
  refine Finset.sum_congr rfl fun h _ => ?_
  simp only [framed_eq, ← hC]
  unfold ext
  split
  · rfl
  · exact Finset.sum_const_zero

/-- The sum of the convolution of an image with nine taps, in terms of the image's total, its border rows and
    columns and its corners. -/
theorem conv_sum (X : Fin 224 → Fin 224 → ℝ) (k : Fin 9 → ℝ) :
    ∑ h : Fin 224, ∑ w : Fin 224,
      (framed X (0 + h.val) (0 + w.val) * k 0 + framed X (0 + h.val) (1 + w.val) * k 1 + framed X (0 + h.val) (2 + w.val) * k 2
        + framed X (1 + h.val) (0 + w.val) * k 3 + framed X (1 + h.val) (1 + w.val) * k 4 + framed X (1 + h.val) (2 + w.val) * k 5
        + framed X (2 + h.val) (0 + w.val) * k 6 + framed X (2 + h.val) (1 + w.val) * k 7 + framed X (2 + h.val) (2 + w.val) * k 8)
      = (∑ w, ∑ h, X h w) * (k 0 + k 1 + k 2 + (k 6 + k 7 + k 8) + k 3 + k 4 + k 5)
        - (∑ w, X 223 w) * (k 0 + k 1 + k 2) - (∑ w, X 0 w) * (k 6 + k 7 + k 8)
        - (∑ h, X h 223) * (k 0 + k 3 + k 6) - (∑ h, X h 0) * (k 2 + k 5 + k 8)
        + X 223 223 * k 0 + X 223 0 * k 2 + X 0 223 * k 6 + X 0 0 * k 8 := by
  have s0 : ∀ f, ∑ h : Fin 224, ext f (0 + h.val) = ∑ i, f i - f 223 := fun f => by
    simp only [Nat.zero_add]; exact sum_ext_zero f
  simp only [Finset.sum_add_distrib, ← Finset.sum_mul]
  rw [sum_framed X 0 0 _ _ s0 s0, sum_framed X 0 1 _ _ s0 sum_ext_one, sum_framed X 0 2 _ _ s0 sum_ext_two,
    sum_framed X 1 0 _ _ sum_ext_one s0, sum_framed X 1 1 _ _ sum_ext_one sum_ext_one, sum_framed X 1 2 _ _ sum_ext_one sum_ext_two,
    sum_framed X 2 0 _ _ sum_ext_two s0, sum_framed X 2 1 _ _ sum_ext_two sum_ext_one, sum_framed X 2 2 _ _ sum_ext_two sum_ext_two,
    Finset.sum_comm (f := fun w h => X h w)]
  simp only [Finset.sum_sub_distrib]
  ring

end Cert.Proof.ConvSum
-- ==== Proof.Score.lean ====
/-
  The score of one channel of reals, the mean of its convolution, and what the kernel's score block computes: where
  the image and the taps are reals, the channel's score (`score_at`).
-/
module

public import proofs.«01_k».proof.Proof.Gen.KernelIdeal.Skeleton
public import proofs.«01_k».proof.Proof.ConvSum
public import Idealize.ShloMosaic.Lib.Pointwise

@[expose] public section

noncomputable section

namespace Cert.Proof.Score

open Idealize.ShloMosaic Idealize.ShloMosaic.TcCoe Idealize.SL.Sem
open Cert.Proof.ConvSum Cert.KernelIdeal.Gen

/-- A sum of reals taken among the extended reals is the sum of the reals. -/
theorem sum_coe {n : ℕ} (f : Fin n → ℝ) : ∑ i, (f i : EReal) = ((∑ i, f i : ℝ) : EReal) := by
  induction n with
  | zero => rfl
  | succ n ih => rw [Fin.sum_univ_succ, Fin.sum_univ_succ, ih, EReal.coe_add]

/-- The convolution of a channel with its nine taps, at one pixel. -/
def conv (X : Fin 224 → Fin 224 → ℝ) (k : Fin 9 → ℝ) (h w : Fin 224) : ℝ :=
  framed X (0 + h.val) (0 + w.val) * k 0 + framed X (0 + h.val) (1 + w.val) * k 1 + framed X (0 + h.val) (2 + w.val) * k 2
    + framed X (1 + h.val) (0 + w.val) * k 3 + framed X (1 + h.val) (1 + w.val) * k 4 + framed X (1 + h.val) (2 + w.val) * k 5
    + framed X (2 + h.val) (0 + w.val) * k 6 + framed X (2 + h.val) (1 + w.val) * k 7 + framed X (2 + h.val) (2 + w.val) * k 8

/-- The score of a channel: the mean of its convolution over the 50176 pixels. -/
def score (X : Fin 224 → Fin 224 → ℝ) (k : Fin 9 → ℝ) : ℝ := (∑ h, ∑ w, conv X k h w) * (1 / 50176)

/-- The named constant is the reciprocal of the number of pixels. -/
theorem inv_hw : (Named.named (F := Ideal) Cert.KernelIdeal.κ "inv_hw" (φ := .f32) 0x37A72F05#32) = ((1 / 50176 : ℝ) : EReal) := rfl

/-- What the score block computes: entry `r` of the block is the score of the block's channel `r`. -/
theorem score_at (x : FVec Ideal Cert.KernelIdeal.S1x16x224x224 .f32) (w : FVec Ideal Cert.KernelIdeal.S16x9 .f32) (r : Fin 16)
    (X : Fin 224 → Fin 224 → ℝ) (k : Fin 9 → ℝ)
    (hx : ∀ (p q : Fin 224), x (ix4 0 r p q) = (X p q : EReal)) (hw : ∀ j : Fin 9, w (ix2 r j) = (k j : EReal)) :
    k0_pay1 (F := Ideal) (k0_pay3 w) (k0_pay5 x) (k0_pay6 x) (k0_pay7 x) (k0_pay10 x) (k0_pay11 x) (k0_pay12 x)
      (k0_pay13 x) (k0_pay14 x) (k0_pay15 x) (k0_pay16 w) (k0_pay17 w) (k0_pay18 w) (ix4 0 0 0 r) = (score X k : EReal) := by
  pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18]
  simp only [hx, hw, sum_coe, ← EReal.coe_add, ← EReal.coe_sub, ← EReal.coe_mul]
  unfold score conv
  rw [conv_sum X k, EReal.coe_mul, ← inv_hw]

end Cert.Proof.Score
-- ==== Proof.ScoreArray.lean ====
/-
  What the first region leaves: where the image and the reshaped taps are reals, the array of the scores, laid out
  24 blocks of 16 channels to a batch (`scores`).
-/
module

public import proofs.«01_k».proof.Proof.Gen.KernelIdeal.Frame
public import proofs.«01_k».proof.Proof.Score
public import Idealize.ShloMosaic.Lib.Pipeline.ValueKit

@[expose] public section

noncomputable section

namespace Cert.Proof.ScoreArray

open Idealize.ShloMosaic Idealize.ShloMosaic.TcCoe Idealize.SL.Sem
open Idealize.ShloMosaic.Pipeline (Dat)
open Cert.KernelIdeal Cert.KernelIdeal.Gen
open Cert.Proof.Score

variable (V : (c : Dev nD) → (b : Ref sig .tc) → Buf (Elt Ideal) ((c : Thread nD τ).loc b))

/-- The blocks of grid point `t`: batch `t / 24`, channels from `16 * (t % 24)`. -/
theorem idx : ∀ t : Fin cfg0.N, win0_0.index t = ![t.val / 24, t.val % 24, 0, 0] ∧ win0_1.index t = ![t.val % 24, 0]
    ∧ win0_2.index t = ![t.val / 24, t.val % 24, 0, 0] ∧ t.val / 24 < 4 :=
  (by decide +kernel : ∀ t : Fin grid0.N, _)

/-- The scores of every channel, laid out 24 blocks of 16 channels to a batch. -/
def scoresOf (X : Fin 4 → Fin 384 → Fin 224 → Fin 224 → ℝ) (K : Fin 384 → Fin 9 → ℝ) : FVec Ideal S4x24x1x16 .f32 := fun i =>
  have h : 16 * (i 1).val + (i 3).val < 384 := by
    have h1 : (i 1).val < 24 := (i 1).isLt
    have h3 : (i 3).val < 16 := (i 3).isLt
    omega
  ((score (X (i 0) ⟨16 * (i 1).val + (i 3).val, h⟩) (K ⟨16 * (i 1).val + (i 3).val, h⟩) : ℝ) : EReal)

/-- The scores, at the coordinates of an index. -/
theorem scoresOf_at (X : Fin 4 → Fin 384 → Fin 224 → Fin 224 → ℝ) (K : Fin 384 → Fin 9 → ℝ) (i : S4x24x1x16.Idx) (b : Fin 4)
    (k : Fin 384) (h0 : (i 0 : ℕ) = b.val) (h1 : 16 * (i 1 : ℕ) + (i 3 : ℕ) = k.val) :
    ((score (X b k) (K k) : ℝ) : EReal) = scoresOf X K i := by
  obtain ⟨k, hk⟩ := k
  obtain rfl : i 0 = b := Fin.ext h0
  obtain rfl : 16 * (i 1 : ℕ) + (i 3 : ℕ) = k := h1
  rfl

/-- The scores' array after the region. -/
theorem scores (c : Dev nD) (X : Fin 4 → Fin 384 → Fin 224 → Fin 224 → ℝ) (K : Fin 384 → Fin 9 → ℝ)
    (hx : ∀ b ch p q, (V c main_arg0 : FVec Ideal S4x384x224x224 .f32) (ix4 b ch p q) = (X b ch p q : EReal))
    (hw : ∀ ch j, (V c main_call0_v0 : FVec Ideal S384x9 .f32) (ix2 ch j) = (K ch j : EReal)) :
    (dat0 V c).arrAt 2 cfg0.N = scoresOf X K := by
  refine (dat0 V c).arrAt_eq_of_covers 2 _ (by decide +kernel) fun t _ y => ?_
  blk_simp [idx t]
  rw [after0_2]
  frame_out
  obtain ⟨r, rfl⟩ : ∃ r : Fin 16, y = ix4 0 0 0 r := ⟨y 3, by idx_ext⟩
  have ht := (idx t).2.2.2
  have hr := r.isLt
  have hc : 16 * (t.val % 24) + r.val < 384 := by omega
  refine (score_at _ _ r (X ⟨t.val / 24, ht⟩ ⟨16 * (t.val % 24) + r.val, hc⟩) (K ⟨16 * (t.val % 24) + r.val, hc⟩)
    (fun p q => ?_) (fun j => ?_)).trans ?_
  · rw [← hx]
    blk_ext [iblk0, idx t]
  · rw [← hw]
    blk_ext [iblk0, idx t]
  · refine scoresOf_at X K _ _ _ ?_ ?_
    · blk_simp [idx t]
      rfl
    · blk_simp [idx t]
      rfl

end Cert.Proof.ScoreArray
-- ==== Proof.Rank.lean ====
/-
  The stable sort by "greater first", read through ranks. The rank of a position is the number of positions whose
  value is greater, or equal at a lower position. The position a stable sort puts at place `r` is the one of rank
  `r` (`rank_sortedFrom`), so the first `k` sorted places are exactly the positions of rank below `k`.
-/
module

public import Idealize.ShloMosaic.Lib.SortFacts

@[expose] public section

namespace Cert.Proof.Rank

open Idealize.ShloMosaic

section Lists
variable {ι α : Type} [LinearOrder α] (g : ι → α) (P : ι → ι → Prop)

/-- Position `a` beats position `b`: its value is greater, or equal and `a` stands earlier (in the order `P`). -/
def Beats (a b : ι) : Prop := g b < g a ∨ (g a = g b ∧ P a b)

/-- Inserting an element that stands earlier than every element of a list ordered by `Beats` keeps it so ordered. -/
theorem pairwise_insert (a : ι) (l : List ι) (ha : ∀ b ∈ l, P a b) (hl : l.Pairwise (Beats g P)) :
    (insertBefore (fun x y => decide (g y < g x)) a l).Pairwise (Beats g P) := by
  induction l with
  | nil => exact List.pairwise_singleton _ _
  | cons b l ih =>
    obtain ⟨hb, hl'⟩ := List.pairwise_cons.mp hl
    unfold insertBefore
    by_cases hlt : g a < g b
    · rw [if_pos (decide_eq_true hlt)]
      refine List.pairwise_cons.mpr ⟨fun c hc => ?_, ih (fun c hc => ha c (List.mem_cons_of_mem b hc)) hl'⟩
      rcases List.mem_cons.mp ((perm_insertBefore _ a l).mem_iff.mp hc) with rfl | hc'
      · exact Or.inl hlt
      · exact hb c hc'
    · rw [if_neg (by simpa using hlt)]
      refine List.pairwise_cons.mpr ⟨fun c hc => ?_, hl⟩
      have hPc : P a c := ha c hc
      have hle : g c ≤ g a := by
        rcases List.mem_cons.mp hc with rfl | hc'
        · exact not_lt.mp hlt
        · rcases hb c hc' with h | ⟨h, _⟩
          · exact h.le.trans (not_lt.mp hlt)
          · exact h ▸ not_lt.mp hlt
      rcases hle.lt_or_eq with h | h
      · exact Or.inl h
      · exact Or.inr ⟨h.symm, hPc⟩

/-- The stable sort of a list by "greater first" is ordered by `Beats`. -/
theorem pairwise_sort (l : List ι) (hl : l.Pairwise P) :
    (stableSort (fun x y => decide (g y < g x)) l).Pairwise (Beats g P) := by
  induction l with
  | nil => exact List.Pairwise.nil
  | cons a l ih =>
    obtain ⟨ha, hl'⟩ := List.pairwise_cons.mp hl
    unfold stableSort
    exact pairwise_insert g P a _ (fun b hb => ha b ((perm_stableSort _ l).mem_iff.mp hb)) (ih hl')

end Lists

variable {n : Nat} {α : Type} [LinearOrder α] (g : Fin n → α)

/-- The comparison a stable sort by "greater first" of the values `g` makes between two positions. -/
def before (a b : Fin n) : Bool := decide (g b < g a)

/-- The number of positions that beat position `i`. -/
def rank (i : Fin n) : Nat := (Finset.univ.filter fun j : Fin n => g i < g j ∨ (g j = g i ∧ j < i)).card

/-- An earlier sorted place holds a position that beats a later place's. -/
theorem beats_of_lt (r r' : Fin n) (h : r < r') :
    Beats g (· < ·) (sortedFrom (before g) r) (sortedFrom (before g) r') := by
  have hp := List.pairwise_iff_get.mp (pairwise_sort g (· < ·) (List.finRange n) (List.pairwise_lt_finRange n))
  exact hp (r.cast (length_sortPositions n _).symm) (r'.cast (length_sortPositions n _).symm) h

/-- The position the stable sort puts at place `r` has rank `r`. -/
theorem rank_sortedFrom (r : Fin n) : rank g (sortedFrom (before g) r) = r.val := by
  have himg : (Finset.univ.filter fun j : Fin n => g (sortedFrom (before g) r) < g j
        ∨ (g j = g (sortedFrom (before g) r) ∧ j < sortedFrom (before g) r))
      = (Finset.Iio r).image (sortedFrom (before g)) := by
    ext j
    simp only [Finset.mem_filter, Finset.mem_univ, true_and, Finset.mem_image, Finset.mem_Iio]
    constructor
    · intro hj
      obtain ⟨r', rfl⟩ := sortedFrom_surjective (before g) j
      refine ⟨r', ?_, rfl⟩
      by_contra hge
      rcases (not_lt.mp hge).lt_or_eq with h | h
      · rcases beats_of_lt g r r' h with h1 | ⟨h1, h1'⟩ <;> rcases hj with h2 | ⟨h2, h2'⟩
        · exact lt_asymm h1 h2
        · exact absurd h2 h1.ne
        · exact absurd h1 h2.ne
        · exact lt_asymm h1' h2'
      · subst h
        rcases hj with h2 | ⟨_, h2⟩ <;> exact lt_irrefl _ h2
    · rintro ⟨r', h, rfl⟩
      exact beats_of_lt g r' r h
  unfold rank
  rw [himg, Finset.card_image_of_injective _ (sortedFrom_injective _), Fin.card_Iio]

/-- Every rank is below the number of positions. -/
theorem rank_lt (i : Fin n) : rank g i < n := by
  obtain ⟨r, rfl⟩ := sortedFrom_surjective (before g) i
  rw [rank_sortedFrom]
  exact r.isLt

/-- The position of rank `r` is the one sorted to place `r`. -/
theorem sortedFrom_rank (i : Fin n) (h : rank g i < n) : sortedFrom (before g) ⟨rank g i, h⟩ = i := by
  obtain ⟨r, rfl⟩ := sortedFrom_surjective (before g) i
  exact congrArg _ (Fin.ext (rank_sortedFrom g r))

/-- The position sorted to place `r`, for the first `k` places. -/
def top (k : Nat) (hk : k ≤ n) (r : Fin k) : Fin n := sortedFrom (before g) (r.castLE hk)

/-- Different places hold different positions. -/
theorem top_injective (k : Nat) (hk : k ≤ n) : Function.Injective (top g k hk) :=
  (sortedFrom_injective _).comp (Fin.castLE_injective hk)

/-- The rank of a listed position is its place in the list. -/
theorem rank_top (k : Nat) (hk : k ≤ n) (r : Fin k) : rank g (top g k hk r) = r.val := rank_sortedFrom g _

/-- A position is among the first `k` exactly when its rank is below `k`. -/
theorem exists_top_iff (k : Nat) (hk : k ≤ n) (i : Fin n) : (∃ r, top g k hk r = i) ↔ rank g i < k := by
  constructor
  · rintro ⟨r, rfl⟩
    rw [rank_top]; exact r.isLt
  · intro h
    exact ⟨⟨rank g i, h⟩, sortedFrom_rank g i (h.trans_le hk)⟩

/-- A sum over the first `k` sorted places is the sum over the positions of rank below `k`. -/
theorem sum_top {M : Type} [AddCommMonoid M] (k : Nat) (hk : k ≤ n) (f : Fin n → M) :
    ∑ r : Fin k, f (top g k hk r) = ∑ i : Fin n, if rank g i < k then f i else 0 := by
  rw [← Finset.sum_filter, ← Finset.sum_image (s := Finset.univ) (g := top g k hk) (f := f) fun a _ b _ h =>
    top_injective g k hk h]
  refine Finset.sum_congr (Finset.ext fun i => ?_) fun _ _ => rfl
  simp only [Finset.mem_image, Finset.mem_univ, true_and, Finset.mem_filter]
  exact exists_top_iff g k hk i

/-- The position sorted to the first place has the greatest value. -/
theorem le_top_zero (i : Fin n) (h : 0 < n) : g i ≤ g (sortedFrom (before g) ⟨0, h⟩) := by
  obtain ⟨r, rfl⟩ := sortedFrom_surjective (before g) i
  by_cases hr : r = ⟨0, h⟩
  · rw [hr]
  · rcases beats_of_lt g ⟨0, h⟩ r (by
      rw [Fin.lt_def]; exact Nat.pos_of_ne_zero fun h0 => hr (Fin.ext h0)) with h1 | ⟨h1, _⟩
    · exact h1.le
    · exact h1.ge

end Cert.Proof.Rank
-- ==== Proof.Gate.lean ====
/-
  The gate on one row of 384 scores: a score's weight is its softmax among the 192 best, zero for a score that is not
  among them. Read off the kernel's gate block (`gate_at`), which ranks every score by counting those that beat it.
-/
module

public import proofs.«01_k».proof.Proof.Gen.KernelIdeal.Skeleton
public import proofs.«01_k».proof.Proof.Rank
public import Idealize.ShloMosaic.Lib.Pointwise
public import Idealize.ShloMosaic.Lib.StableHlo.Predicate

@[expose] public section

noncomputable section

namespace Cert.Proof.Gate

open Idealize.ShloMosaic Idealize.ShloMosaic.TcCoe Idealize.SL.Sem
open Cert.Proof.Rank

/-- The greatest score of the row. -/
def peak (g : Fin 384 → EReal) : EReal := Finset.univ.fold max ⊥ g

/-- The exponential of a score's distance below the greatest, for the 192 best scores; zero for the others. -/
def part (g : Fin 384 → EReal) (i : Fin 384) : EReal := if rank g i < 192 then Ideal.exp (g i - peak g) else 0

/-- The weight of a score: its part of the sum of the parts. -/
def weight (g : Fin 384 → EReal) (i : Fin 384) : EReal := Ideal.div (part g i) (∑ j, part g j)

/-- Every score is at most the greatest. -/
theorem le_peak (g : Fin 384 → EReal) (i : Fin 384) : g i ≤ peak g :=
  (Finset.le_fold_max _).2 (Or.inr ⟨i, Finset.mem_univ i, le_rfl⟩)

/-- The greatest score is the one sorted to the first place. -/
theorem peak_eq (g : Fin 384 → EReal) : peak g = g (sortedFrom (before g) ⟨0, by decide⟩) := by
  refine le_antisymm ?_ (le_peak g _)
  exact (Finset.fold_max_le _).2 ⟨bot_le, fun i _ => le_top_zero g i (by decide)⟩

/-- No part is negative. -/
theorem part_nonneg (g : Fin 384 → EReal) (i : Fin 384) : 0 ≤ part g i := by
  unfold part
  split
  · rcases g i - peak g with _ | _ | r
    · exact le_refl _
    · exact le_top
    · exact EReal.coe_nonneg.2 (Real.exp_pos _).le
  · exact le_refl _

/-- Among scores that are reals, the sum of the parts is not zero: the greatest score's part is 1. -/
theorem sum_part_ne_zero (g : Fin 384 → EReal) (hg : ∀ i, ∃ r : ℝ, g i = r) : ∑ j, part g j ≠ 0 := by
  have h1 : part g (sortedFrom (before g) ⟨0, by decide⟩) = 1 := by
    unfold part
    rw [rank_sortedFrom, if_pos (by decide), peak_eq]
    obtain ⟨r, hr⟩ := hg (sortedFrom (before g) ⟨0, by decide⟩)
    rw [hr, ← EReal.coe_sub, sub_self, Ideal.exp_coe, Real.exp_zero, EReal.coe_one]
  have h2 := Finset.single_le_sum (f := part g) (fun i _ => part_nonneg g i) (Finset.mem_univ (sortedFrom (before g) ⟨0, by decide⟩))
  rw [h1] at h2
  exact (lt_of_lt_of_le zero_lt_one h2).ne'

/-- Among scores that are reals, a score that is not among the 192 best has weight zero. -/
theorem weight_of_not (g : Fin 384 → EReal) (hg : ∀ i, ∃ r : ℝ, g i = r) (i : Fin 384) (h : ¬ rank g i < 192) :
    weight g i = 0 := by
  unfold weight
  rw [Ideal.div, if_neg (sum_part_ne_zero g hg), part, if_neg h, zero_mul]

/-- The f32 pattern of the negative infinity is the least extended real. -/
theorem ofBits_neg_inf : Ideal.ofBits .f32 0xFF800000#32 = ⊥ := by simp [Ideal.ofBits, Ideal.ieee]

/-- The signed comparison of two small words is that of their numbers. -/
theorem slt_small (a b : ℕ) (ha : a < 2 ^ 31) (hb : b < 2 ^ 31) :
    IntOp.cmpi CmpIPredicate.slt (BitVec.ofNat 32 a) (BitVec.ofNat 32 b) = BitVec.ofBool (decide (a < b)) := by
  refine congrArg BitVec.ofBool (Bool.eq_iff_iff.2 ?_)
  rw [decide_eq_true_iff, ← StableHlo.Predicate.slt_ofNat_iff a b ha hb, StableHlo.Predicate.ofBool_eq_one_iff]

/-- The kernel's count of the scores that beat score `i`, compared with 192. -/
theorem count_slt (g : Fin 384 → EReal) (i : Fin 384) :
    IntOp.cmpi CmpIPredicate.slt
      (Finset.fold IntOp.addi (0#32)
        (fun x : Fin 384 => BitVec.setWidth 32
          (IntOp.ori (BitVec.ofBool (decide (g i < g x)))
            (IntOp.andi (BitVec.ofBool (decide (g x = g i)))
              (IntOp.cmpi CmpIPredicate.slt (BitVec.ofNat 32 x.val) (BitVec.ofNat 32 i.val)))))
        Finset.univ) 192#32 = BitVec.ofBool (decide (rank g i < 192)) := by
  have hbit : ∀ x : Fin 384, (BitVec.setWidth 32
          (IntOp.ori (BitVec.ofBool (decide (g i < g x)))
            (IntOp.andi (BitVec.ofBool (decide (g x = g i)))
              (IntOp.cmpi CmpIPredicate.slt (BitVec.ofNat 32 x.val) (BitVec.ofNat 32 i.val))))).toNat
        = if g i < g x ∨ (g x = g i ∧ x < i) then 1 else 0 := fun x => by
    have hs : IntOp.cmpi CmpIPredicate.slt (BitVec.ofNat 32 x.val) (BitVec.ofNat 32 i.val) = BitVec.ofBool (decide (x < i)) := by
      have hx := x.isLt
      have hi := i.isLt
      exact slt_small x.val i.val (by omega) (by omega)
    rw [hs, StableHlo.Predicate.toNat_setWidth_bit]
    by_cases h1 : g i < g x <;> by_cases h2 : g x = g i <;> by_cases h3 : x < i <;>
      simp [h1, h2, h3, IntOp.ori, IntOp.andi]
  have hsum : ∑ x : Fin 384, (BitVec.setWidth 32
          (IntOp.ori (BitVec.ofBool (decide (g i < g x)))
            (IntOp.andi (BitVec.ofBool (decide (g x = g i)))
              (IntOp.cmpi CmpIPredicate.slt (BitVec.ofNat 32 x.val) (BitVec.ofNat 32 i.val))))).toNat = rank g i := by
    simp only [hbit]
    rw [rank, Finset.card_filter]
  have hlt := rank_lt g i
  have hfold := StableHlo.Predicate.toNat_fold_addi Finset.univ _ (lt_of_eq_of_lt hsum (by omega))
  rw [hsum] at hfold
  generalize Finset.fold IntOp.addi (0#32) _ _ = v at hfold ⊢
  have hv : v = BitVec.ofNat 32 (rank g i) := by
    apply BitVec.eq_of_toNat_eq
    rw [hfold, BitVec.toNat_ofNat, Nat.mod_eq_of_lt (by omega)]
  rw [hv]
  exact slt_small (rank g i) 192 (by omega) (by omega)

/-- What the gate block computes: entry `(b, i)` is the weight of score `i` in row `b`. -/
theorem gate_at (g : FVec Ideal Cert.KernelIdeal.S4x384 .f32) (b : Fin 4) (i : Fin 384) :
    Cert.KernelIdeal.Gen.k1_pay1 (F := Ideal) g (ix2 b i) = weight (fun j => g (ix2 b j)) i := by
  have hsel : ∀ (x : Fin 384) (e : EReal), Scalar.select (IntOp.cmpi CmpIPredicate.slt
      (Finset.fold IntOp.addi (0#32)
        (fun y : Fin 384 => BitVec.setWidth 32
          (IntOp.ori (BitVec.ofBool (decide (g (ix2 b x) < g (ix2 b y))))
            (IntOp.andi (BitVec.ofBool (decide (g (ix2 b y) = g (ix2 b x))))
              (IntOp.cmpi CmpIPredicate.slt (BitVec.ofNat 32 y.val) (BitVec.ofNat 32 x.val)))))
        Finset.univ) 192#32) e 0
      = if rank (fun j => g (ix2 b j)) x < 192 then e else 0 := fun x e => by
    refine (congrArg (Scalar.select · e 0) (count_slt (fun j => g (ix2 b j)) x)).trans ?_
    by_cases h : rank (fun j => g (ix2 b j)) x < 192 <;> simp [h, Scalar.select]
  pointwise [Cert.KernelIdeal.Gen.k1_pay1]
  rw [ofBits_neg_inf]
  exact congrArg₂ Ideal.div (hsel i _) (Finset.sum_congr rfl fun x _ => hsel x _)

end Cert.Proof.Gate
-- ==== Proof.GateArray.lean ====
/-
  What the second region leaves: the weight of every score of the array it is given (`weights`).
-/
module

public import proofs.«01_k».proof.Proof.Gen.KernelIdeal.Frame
public import proofs.«01_k».proof.Proof.Gate
public import Idealize.ShloMosaic.Lib.Pipeline.ValueKit

@[expose] public section

noncomputable section

namespace Cert.Proof.GateArray

open Idealize.ShloMosaic Idealize.ShloMosaic.TcCoe Idealize.SL.Sem
open Idealize.ShloMosaic.Pipeline (Dat)
open Cert.KernelIdeal Cert.KernelIdeal.Gen
open Cert.Proof.Gate

variable (V : (c : Dev nD) → (b : Ref sig .tc) → Buf (Elt Ideal) ((c : Thread nD τ).loc b))

/-- Both blocks of the one grid point are whole arrays. -/
theorem idx : ∀ t : Fin cfg1.N, win1_0.index t = ![0, 0] ∧ win1_1.index t = ![0, 0] :=
  (by decide +kernel : ∀ t : Fin grid1.N, _)

/-- The weights of every score of an array, row by row. -/
def weightsOf (g : FVec Ideal S4x384 .f32) : FVec Ideal S4x384 .f32 := fun i => weight (fun j => g (ix2 (i 0) j)) (i 1)

/-- The weights, at the coordinates of an index. -/
theorem weightsOf_at (g : FVec Ideal S4x384 .f32) (i : S4x384.Idx) (b : Fin 4) (k : Fin 384) (h0 : (i 0 : ℕ) = b.val)
    (h1 : (i 1 : ℕ) = k.val) : weight (fun j => g (ix2 b j)) k = weightsOf g i := by
  obtain rfl : i 0 = b := Fin.ext h0
  obtain rfl : i 1 = k := Fin.ext h1
  rfl

/-- The one block of the scores is their whole array. -/
theorem block (c : Dev nD) (t : Fin cfg1.N) (b : Fin 4) (k : Fin 384) :
    (iblk1 V c 0 t : FVec Ideal S4x384 .f32) (ix2 b k) = (V c main_call0_v2 : FVec Ideal S4x384 .f32) (ix2 b k) := by
  blk_ext [iblk1, idx t]

/-- The weights' array after the region. -/
theorem weights (c : Dev nD) : (dat1 V c).arrAt 1 cfg1.N = weightsOf (V c main_call0_v2) := by
  refine (dat1 V c).arrAt_eq_of_covers 1 _ (by decide +kernel) fun t _ y => ?_
  blk_simp [idx t]
  rw [after1_1]
  frame_out
  obtain ⟨b, i, rfl⟩ : ∃ (b : Fin 4) (i : Fin 384), y = ix2 b i := ⟨y 0, y 1, by idx_ext⟩
  refine (gate_at _ b i).trans ?_
  refine (congrArg (fun f => weight f i) (funext fun j => block V c t b j)).trans (weightsOf_at _ _ b i ?_ ?_)
  · blk_simp [idx t]
  · blk_simp [idx t]

end Cert.Proof.GateArray
-- ==== Proof.ScaleArray.lean ====
/-
  What the third region leaves: every pixel of the image by its channel's word of the weights (`scaled`).
-/
module

public import proofs.«01_k».proof.Proof.Gen.KernelIdeal.Frame
public import Idealize.ShloMosaic.Lib.Pointwise
public import Idealize.ShloMosaic.Lib.Pipeline.ValueKit

@[expose] public section

noncomputable section

namespace Cert.Proof.ScaleArray

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The blocks of grid point `t`: the whole weights; batch `t / 24`, channels from `16 * (t % 24)`. -/
theorem idx : ∀ t : Fin cfg2.N, win2_0.index t = ![0, 0] ∧ win2_1.index t = ![t.val / 24, t.val % 24, 0, 0]
    ∧ win2_2.index t = ![t.val / 24, t.val % 24, 0, 0] ∧ t.val / 24 < 4 :=
  (by decide +kernel : ∀ t : Fin grid2.N, _)

/-- An image with every channel multiplied by its word. -/
def scaledBy (g : FVec Ideal S4x384 .f32) (x : FVec Ideal S4x384x224x224 .f32) : FVec Ideal S4x384x224x224 .f32 :=
  fun i => x i * g (ix2 (i 0) (i 1))

/-- Where point `t` finds the word of the block's channel `n`. -/
theorem off : ∀ (t : Fin cfg2.N) (n : Fin 16), k2_off1 (grid2.coords t) (BitVec.ofNat 32 n.val) 0 = t.val / 24
    ∧ k2_off1 (grid2.coords t) (BitVec.ofNat 32 n.val) 1 = t.val % 24 * 16 + n.val :=
  (by decide +kernel : ∀ (t : Fin grid2.N) (n : Fin 16), _)

/-- One store of the body: channel `n` of the point's block of the image by the word the body loads for it. -/
theorem store_at (c : Dev nD) (t : Fin cfg2.N) (n : Fin 16) (p q : Fin 224) (a : Fin 4) (b : Fin 384)
    (ha : a.val = k2_off1 (grid2.coords t) (BitVec.ofNat 32 n.val) 0)
    (hb : b.val = k2_off1 (grid2.coords t) (BitVec.ofNat 32 n.val) 1)
    (j : S4x384x224x224.Idx) (h0 : (j 0 : ℕ) = t.val / 24) (h1 : (j 1 : ℕ) = t.val % 24 * 16 + n.val)
    (h2 : (j 2 : ℕ) = p.val) (h3 : (j 3 : ℕ) = q.val) :
    (show EReal from iblk2 V c 1 t (ix4 0 n p q)) * (show EReal from iblk2 V c 0 t (ix2 a b))
      = scaledBy (V c main_call0_v3) (V c main_arg0) j := by
  have e1 : iblk2 V c 1 t (ix4 0 n p q) = (V c main_arg0 : FVec Ideal S4x384x224x224 .f32) j := by
    blk_ext [iblk2, idx t]
  have e0 : iblk2 V c 0 t (ix2 a b) = (V c main_call0_v3 : FVec Ideal S4x384 .f32) (ix2 (j 0) (j 1)) := by
    rw [(off t n).1] at ha
    rw [(off t n).2] at hb
    blk_ext [iblk2, idx t]
  exact congrArg₂ (fun u v : EReal => u * v) e1 e0

/-- The body's block at point `t`, at the coordinates of an index of the array. -/
theorem point (c : Dev nD) (t : Fin cfg2.N) (y : S1x16x224x224.Idx) (j : S4x384x224x224.Idx) (h0 : (j 0 : ℕ) = t.val / 24)
    (h1 : (j 1 : ℕ) = t.val % 24 * 16 + y 1) (h2 : (j 2 : ℕ) = y 2) (h3 : (j 3 : ℕ) = y 3) :
    outsAt2 V c t y = scaledBy (V c main_call0_v3) (V c main_arg0) j := by
  unfold outsAt2
  frame_out
  canon_tiles x k
  all_goals
    open_payloads
    pointwise
    exact store_at V c t _ (x 2) (x 3) _ _ rfl rfl j h0 (by rw [h1, k1]; omega) (h2.trans k2) (h3.trans k3)

/-- The scaled image after the region. -/
theorem scaled (c : Dev nD) : (dat2 V c).arrAt 2 cfg2.N = scaledBy (V c main_call0_v3) (V c main_arg0) := by
  refine (dat2 V c).arrAt_eq_of_covers 2 _ (by decide +kernel) fun t _ y => ?_
  blk_simp [idx t]
  rw [after2_2]
  have hy : (y 0 : ℕ) < 1 := (y 0).isLt
  refine point V c t y _ ?_ ?_ ?_ ?_ <;> blk_simp [idx t]

end Cert.Proof.ScaleArray
-- ==== Proof.Entry.lean ====
/-
  What each region finds in its arrays: the two reshapes the kernel's host part makes, read at an index (`taps_at`,
  `scores_at`), and from them what the last region leaves in the result (`result`): each channel of the image times
  the weight its score has among the scores of its batch.
-/
module

public import proofs.«01_k».proof.Proof.ScoreArray
public import proofs.«01_k».proof.Proof.GateArray
public import proofs.«01_k».proof.Proof.ScaleArray
public import Idealize.ShloMosaic.Lib.Pointwise

@[expose] public section

noncomputable section

namespace Cert.Proof.Entry

open Idealize.ShloMosaic Idealize.ShloMosaic.TcCoe Idealize.SL.Sem
open Cert.KernelIdeal Cert.KernelIdeal.Gen
open Cert.Proof.Score Cert.Proof.Gate
open Cert.Proof.ScoreArray Cert.Proof.GateArray Cert.Proof.ScaleArray

/-- The taps as nine to a channel: tap `j` of a channel is at row `j / 3`, column `j % 3` of its 3 by 3 array. -/
theorem taps_at (w : FVec Ideal S384x1x3x3 .f32) (ch : Fin 384) (j : Fin 9) :
    shapeCast S384x9 w shapeCasts_S384x1x3x3_S384x9 (ix2 ch j)
      = w (ix4 ch (0 : Fin 1) (⟨j.val / 3, by omega⟩ : Fin 3) (⟨j.val % 3, by omega⟩ : Fin 3)) := by
  pointwise

/-- The scores as one row to a batch: channel `ch` is channel `ch % 16` of block `ch / 16`. -/
theorem scores_at (s : FVec Ideal S4x24x1x16 .f32) (b : Fin 4) (ch : Fin 384) :
    shapeCast S4x384 s shapeCasts_S4x24x1x16_S4x384 (ix2 b ch)
      = s (ix4 b (⟨ch.val / 16, by omega⟩ : Fin 24) (0 : Fin 1) (⟨ch.val % 16, by omega⟩ : Fin 16)) := by
  pointwise

variable (m : (ℓ : Loc nD τ sig) → Buf (Elt Ideal) ℓ) (ρ : Dev nD → PrngReg) (c : Dev nD)

/-- The first region reads the taps reshaped. -/
theorem entry_taps : V1 m ρ c main_call0_v0
    = (shapeCast S384x9 (m ((c : Thread nD τ).loc main_arg1) : FVec Ideal S384x1x3x3 .f32) shapeCasts_S384x1x3x3_S384x9 : FVec Ideal S384x9 .f32) := by
  show StableHlo.after hostOps0 (W0 m ρ c) (Proc.devRef .tc main_call0_v0) = _
  after_results
  rfl

/-- The second region reads what the first left, reshaped. -/
theorem entry_scores : V3 m ρ c main_call0_v2
    = (shapeCast S4x384 (((dat0 (V1 m ρ) c).arrAt 2 cfg0.N) : FVec Ideal S4x24x1x16 .f32) shapeCasts_S4x24x1x16_S4x384 : FVec Ideal S4x384 .f32) := by
  rw [← W2_arr m ρ c 2]
  show StableHlo.after hostOps1 (W2 m ρ c) (Proc.devRef .tc main_call0_v2) = _
  after_results
  rfl

/-- The scores of all images against all taps, one row to a batch. -/
def scoreRows (X : Fin 4 → Fin 384 → Fin 224 → Fin 224 → ℝ) (K : Fin 384 → Fin 9 → ℝ) : FVec Ideal S4x384 .f32 :=
  fun i => (score (X (i 0) (i 1)) (K (i 1)) : EReal)

/-- The array of scores in blocks of 16 channels, read as rows, is the rows of scores. -/
theorem scores_rows (X : Fin 4 → Fin 384 → Fin 224 → Fin 224 → ℝ) (K : Fin 384 → Fin 9 → ℝ) :
    shapeCast S4x384 (scoresOf X K) shapeCasts_S4x24x1x16_S4x384 = scoreRows X K := by
  funext i
  obtain ⟨b, ch, rfl⟩ : ∃ (b : Fin 4) (ch : Fin 384), i = ix2 b ch := ⟨i 0, i 1, by idx_ext⟩
  rw [scores_at]
  exact (scoresOf_at X K _ b ch rfl (by show 16 * (ch.val / 16) + ch.val % 16 = ch.val; omega)).symm

/-- The result of the kernel, where the image is `X` and the taps are `K`: the image, each channel times the weight its
    score has among the scores of its batch. -/
theorem result (X : Fin 4 → Fin 384 → Fin 224 → Fin 224 → ℝ) (K : Fin 384 → Fin 9 → ℝ)
    (hx : ∀ b ch p q, (m ((c : Thread nD τ).loc main_arg0) : FVec Ideal S4x384x224x224 .f32) (ix4 b ch p q) = (X b ch p q : EReal))
    (hw : ∀ (ch : Fin 384) (i j : Fin 3) (t : Fin 9), t.val = 3 * i.val + j.val →
      (m ((c : Thread nD τ).loc main_arg1) : FVec Ideal S384x1x3x3 .f32) (ix4 ch (0 : Fin 1) i j) = (K ch t : EReal)) :
    W5 m ρ c (Proc.devRef .tc main_v0)
      = scaledBy (weightsOf (scoreRows X K)) (m ((c : Thread nD τ).loc main_arg0) : FVec Ideal S4x384x224x224 .f32) := by
  have ha : V1 m ρ c main_arg0 = m ((c : Thread nD τ).loc main_arg0) := W1_args m ρ c main_arg0 (by decide)
  have ha' : V4 m ρ c main_arg0 = m ((c : Thread nD τ).loc main_arg0) := W4_args m ρ c main_arg0 (by decide)
  have h0 : (dat0 (V1 m ρ) c).arrAt 2 cfg0.N = scoresOf X K := by
    refine scores (V1 m ρ) c X K (fun b ch p q => ?_) (fun ch j => ?_)
    · rw [ha]; exact hx b ch p q
    · rw [entry_taps]
      exact (taps_at _ ch j).trans (hw ch _ _ j (by show j.val = 3 * (j.val / 3) + j.val % 3; omega))
  have h2 : V3 m ρ c main_call0_v2 = scoreRows X K := by
    rw [entry_scores, h0, scores_rows]
  have h3 : V4 m ρ c main_call0_v3 = weightsOf (scoreRows X K) :=
    (W4_arr m ρ c 1).trans ((weights (V3 m ρ) c).trans (congrArg weightsOf h2))
  exact ((W5_arr m ρ c 2).trans (scaled (V4 m ρ) c)).trans (congrArg₂ scaledBy h3 ha')

end Cert.Proof.Entry

end
-- ==== Proof.RefScore.lean ====
/-
  What the reference computes before it ranks: the padded image, its convolution with the nine taps, and the mean of
  the convolution, which over reals is the score of the channel (`refScore_at`).
-/
module

public import proofs.«01_k».proof.Proof.Gen.ReferenceIdeal.Read
public import proofs.«01_k».proof.Proof.Score
public import Idealize.ShloMosaic.Lib.Pointwise

@[expose] public section

noncomputable section

namespace Cert.Proof.RefScore

open Idealize.ShloMosaic Idealize.ShloMosaic.TcCoe Idealize.SL.Sem
open Cert.ReferenceIdeal Cert.ReferenceIdeal.Gen Cert.ReferenceIdeal.Read
open Cert.Proof.ConvSum Cert.Proof.Score

/-- The padded image is the image framed by zeros. -/
theorem pad_at (x : FVec Ideal S4x384x224x224 .f32) (b : Fin 4) (c : Fin 384) (X : Fin 224 → Fin 224 → ℝ)
    (hx : ∀ (p q : Fin 224), x (ix4 b c p q) = (X p q : EReal)) (p q : Fin 226) :
    val_main_v0 (F := Ideal) x (ix4 b c p q) = (framed X p.val q.val : EReal) := by
  pointwise [val_main_v0, val_main_c, val_main_call0_v0]
  unfold framed
  split
  · exact hx _ _
  · show ((((0#32 : BitVec 32).toInt : ℝ)) : EReal) = ((0 : ℝ) : EReal)
    norm_num

/-- The sum of the nine tapped images is the convolution. -/
theorem conv_at (x : FVec Ideal S4x384x224x224 .f32) (w : FVec Ideal S384x1x3x3 .f32) (b : Fin 4) (c : Fin 384)
    (X : Fin 224 → Fin 224 → ℝ) (k : Fin 9 → ℝ)
    (hx : ∀ (p q : Fin 224), x (ix4 b c p q) = (X p q : EReal))
    (hw : ∀ i j : Fin 3, w (ix4 c 0 i j) = (k ⟨3 * i.val + j.val, by omega⟩ : EReal)) (p q : Fin 224) :
    val_main_v64 (F := Ideal) x w (ix4 b c p q) = (conv X k p q : EReal) := by
  pointwise [val_main_v64, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1, val_main_cst]
  simp only [pad_at x b c X hx, hw, ← EReal.coe_add, ← EReal.coe_mul]
  unfold conv
  simp only [Nat.zero_add]
  rfl

/-- The f32 pattern of the number of pixels. -/
theorem ofBits_hw : Ideal.ofBits .f32 1195638784#32 = ((50176 : ℝ) : EReal) := by
  simp [Ideal.ofBits, Ideal.ieee, -EReal.coe_mul]; norm_num

/-- The mean of the convolution is the score. -/
theorem refScore_at (x : FVec Ideal S4x384x224x224 .f32) (w : FVec Ideal S384x1x3x3 .f32) (b : Fin 4) (c : Fin 384)
    (X : Fin 224 → Fin 224 → ℝ) (k : Fin 9 → ℝ)
    (hx : ∀ (p q : Fin 224), x (ix4 b c p q) = (X p q : EReal))
    (hw : ∀ i j : Fin 3, w (ix4 c 0 i j) = (k ⟨3 * i.val + j.val, by omega⟩ : EReal)) :
    val_main_v67 (F := Ideal) x w (ix2 b c) = (score X k : EReal) := by
  pointwise [val_main_v67, val_main_v66, val_main_v65, val_main_cst_0, val_main_cst_1]
  simp only [conv_at x w b c X k hx hw, sum_coe]
  rw [ofBits_hw, Ideal.div_coe (by norm_num), ← EReal.coe_mul]
  rfl

end Cert.Proof.RefScore
-- ==== Proof.RefGate.lean ====
/-
  What the reference computes from a row of scores: the 192 best in order (`values_at`, `indices_at`), the softmax of
  those (`softmax_at`), and the scatter of the softmax to the channels the scores came from, which is the weight of
  every channel (`scatter_at`).
-/
module

public import proofs.«01_k».proof.Proof.Gen.ReferenceIdeal.Read
public import proofs.«01_k».proof.Proof.Gate
public import Idealize.ShloMosaic.Lib.Pointwise
public import Idealize.ShloMosaic.Lib.Routing.OpsSet

@[expose] public section

noncomputable section

namespace Cert.Proof.RefGate

open Idealize.ShloMosaic Idealize.ShloMosaic.TcCoe Idealize.SL.Sem
open Cert.ReferenceIdeal Cert.ReferenceIdeal.Gen Cert.ReferenceIdeal.Read
open Cert.Proof.Rank Cert.Proof.Gate

variable (x : FVec Ideal S4x384x224x224 .f32) (w : FVec Ideal S384x1x3x3 .f32)

/-- The reference's scores of batch `b`. -/
def row (b : Fin 4) : Fin 384 → EReal := fun j => val_main_v67 (F := Ideal) x w (ix2 b j)

/-- The channel of the score sorted to place `r`. -/
def place (b : Fin 4) (r : Fin 192) : Fin 384 := top (row x w b) 192 (by decide) r

theorem along_ix2 (b : Fin 4) (j k : Fin 384) : (ix2 b j : S4x384.Idx).along 1 k = ix2 b k := by
  funext a
  match a with
  | ⟨0, _⟩ => rfl
  | ⟨1, _⟩ => rfl

/-- The reference's comparator on batch `b` puts the greater score first. -/
theorem sorter_eq (b : Fin 4) (j : Fin 384) :
    (fun k k' : Fin 384 => FloatOps.cmpfTotal (F := Ideal) (φ := .f32) .gt (val_main_v67 (F := Ideal) x w ((ix2 b j : S4x384.Idx).along 1 k))
      (val_main_v67 (F := Ideal) x w ((ix2 b j : S4x384.Idx).along 1 k')) == 1#1) = before (row x w b) := by
  funext k k'
  rw [along_ix2, along_ix2, Ideal.cmpfTotal_def]
  show (BitVec.ofBool (decide (row x w b k' < row x w b k)) == 1#1) = decide (row x w b k' < row x w b k)
  cases decide (row x w b k' < row x w b k) <;> rfl

/-- The best scores, in order. -/
theorem values_at (b : Fin 4) (r : Fin 192) : val_main_values (F := Ideal) x w (ix2 b r) = row x w b (place x w b r) := by
  unfold val_main_values
  simp only [Host.topK, Host.sort2]
  pointwise
  refine (congrArg (fun f => val_main_v67 (F := Ideal) x w ((ix2 b (⟨r.val, by omega⟩ : Fin 384) : S4x384.Idx).along 1 (sortedFrom f (⟨r.val, by omega⟩ : Fin 384))))
    (sorter_eq x w b _)).trans ?_
  exact congrArg (val_main_v67 (F := Ideal) x w) (along_ix2 b _ (place x w b r))

/-- The channels of the best scores, in the same order. -/
theorem indices_at (b : Fin 4) (r : Fin 192) :
    val_main_indices (F := Ideal) x w (ix2 b r) = BitVec.ofNat 32 (place x w b r).val := by
  unfold val_main_indices
  simp only [Host.topK, Host.sort2]
  pointwise
  refine congrArg (BitVec.ofNat 32) (congrArg Fin.val (?_ : (_ : Fin 384) = _))
  refine (Function.update_self (1 : Fin 2) _ _).trans ?_
  have hr : r.val < 384 := by omega
  have e := congrArg (fun f : Fin 384 → Fin 384 → Bool => sortedFrom f (⟨r.val, hr⟩ : Fin 384)) (sorter_eq x w b ⟨r.val, hr⟩)
  exact e

/-- The greatest of the 192 best scores is the greatest of all. -/
theorem peak_top (g : Fin 384 → EReal) :
    max (⊥ : EReal) (Finset.univ.fold max ⊥ fun r : Fin 192 => g (top g 192 (by decide) r)) = peak g := by
  rw [max_eq_right bot_le]
  refine le_antisymm ((Finset.fold_max_le _).2 ⟨bot_le, fun r _ => le_peak _ _⟩) ?_
  rw [peak_eq]
  exact (Finset.le_fold_max _).2 (Or.inr ⟨⟨0, by decide⟩, Finset.mem_univ _, le_of_eq rfl⟩)

/-- The same, read off the reference's scores. -/
theorem peak_values (b : Fin 4) :
    max (⊥ : EReal) (Finset.univ.fold max ⊥ fun r : Fin 192 => row x w b (place x w b r)) = peak (row x w b) :=
  peak_top (row x w b)

/-- The softmax of the best scores: entry `r` is the weight of the channel sorted to place `r`. -/
theorem softmax_at (b : Fin 4) (r : Fin 192) :
    val_main_v78 (F := Ideal) x w (ix2 b r) = weight (row x w b) (place x w b r) := by
  pointwise [val_main_v78, val_main_v77, val_main_v76, val_main_v75, val_main_v74, val_main_v73, val_main_v72,
    val_main_v71, val_main_v70, val_main_v69, val_main_v68, val_main_cst_2, val_main_cst_3, val_main_cst_4]
  simp only [values_at, ofBits_neg_inf, peak_values]
  unfold weight part
  rw [if_pos (by rw [place, Rank.rank_top]; exact r.isLt)]
  exact congrArg (Ideal.div _) (sum_top (row x w b) 192 (by decide) fun i => Ideal.exp (row x w b i - peak (row x w b)))

/-- Where the softmax's entry `r` of batch `a` is scattered to. -/
theorem lands (a b : Fin 4) (r : Fin 192) (c : Fin 384) :
    scatter_S4x384_S4x192x2_S4x192_n_01_01_2.resultIdx? (ix2 a r) (val_main_v85 (F := Ideal) x w) = some (ix2 b c)
      ↔ a = b ∧ place x w a r = c := by
  have h0 : val_main_v85 (F := Ideal) x w (ix3 a r 0) = BitVec.ofNat 32 a.val := by
    pointwise [val_main_v85, val_main_v84, val_main_v83, val_main_v82, val_main_v81, val_main_v80]
  have h1 : val_main_v85 (F := Ideal) x w (ix3 a r 1) = BitVec.ofNat 32 (place x w a r).val := by
    rw [← indices_at]
    pointwise [val_main_v85, val_main_v84, val_main_v83, val_main_v82, val_main_v81, val_main_v80]
  have ha := a.isLt
  have hp := (place x w a r).isLt
  refine (Routing.scatter_lands2 _ rfl rfl rfl _ a r b c).trans ?_
  show (val_main_v85 (F := Ideal) x w (ix3 a r 0)).toInt = b.val ∧ (val_main_v85 (F := Ideal) x w (ix3 a r 1)).toInt = c.val ↔ _
  rw [h0, h1, StableHlo.Predicate.toInt_ofNat_small _ (by omega), StableHlo.Predicate.toInt_ofNat_small _ (by omega),
    Fin.ext_iff, Fin.ext_iff]
  omega

/-- The scatter, where every score is a real: entry `(b, c)` is the weight of channel `c` in batch `b`. -/
theorem scatter_at (b : Fin 4) (c : Fin 384) (hg : ∀ i, ∃ s : ℝ, row x w b i = s) :
    val_main_v86 (F := Ideal) x w (ix2 b c) = weight (row x w b) c := by
  unfold val_main_v86
  by_cases h : rank (row x w b) c < 192
  · obtain ⟨r, hr⟩ := (exists_top_iff (row x w b) 192 (by decide) c).2 h
    refine Routing.scatter_set_hit _ _ _ _ _ _ (fun k hk => ?_) (ix2 b r) ((lands x w b b r c).2 ⟨rfl, hr⟩)
    obtain ⟨a, q, rfl⟩ : ∃ (a : Fin 4) (q : Fin 192), k = ix2 a q := ⟨k 0, k 1, by idx_ext⟩
    obtain ⟨rfl, rfl⟩ := (lands x w a b q c).1 hk
    exact softmax_at x w a q
  · refine (Routing.scatter_set_miss _ _ _ _ _ fun k hk => ?_).trans ?_
    · obtain ⟨a, q, rfl⟩ : ∃ (a : Fin 4) (q : Fin 192), k = ix2 a q := ⟨k 0, k 1, by idx_ext⟩
      obtain ⟨rfl, hq⟩ := (lands x w a b q c).1 hk
      exact h ((exists_top_iff (row x w a) 192 (by decide) c).1 ⟨q, hq⟩)
    · rw [weight_of_not _ hg _ h]
      pointwise [val_main_v79, val_main_cst_5]

/-- The reference's result: each pixel by its channel's weight. -/
theorem result_at (b : Fin 4) (c : Fin 384) (p q : Fin 224) :
    val_main_v89 (F := Ideal) x w (ix4 b c p q) = val_main_v86 (F := Ideal) x w (ix2 b c) * x (ix4 b c p q) := by
  pointwise [val_main_v89, val_main_v88, val_main_v87]

end Cert.Proof.RefGate
-- ==== Proof.Equation.lean ====
/-
  The equation: where the image and the taps are reals, the kernel's result is the reference's (`kernel_eq_reference`).
  Both are the image, each channel times the weight its score has among the scores of its batch; the scores agree by
  `refScore_at`.
-/
module

public import proofs.«01_k».proof.Proof.Entry
public import proofs.«01_k».proof.Proof.RefScore
public import proofs.«01_k».proof.Proof.RefGate

@[expose] public section

noncomputable section

namespace Cert.Proof.Equation

open Idealize.ShloMosaic Idealize.ShloMosaic.TcCoe Idealize.SL.Sem
open Cert.ReferenceIdeal Cert.ReferenceIdeal.Gen Cert.ReferenceIdeal.Read
open Cert.Proof.Score Cert.Proof.Gate Cert.Proof.Entry Cert.Proof.ScaleArray Cert.Proof.GateArray

variable (x : FVec Ideal S4x384x224x224 .f32) (w : FVec Ideal S384x1x3x3 .f32)
  (X : Fin 4 → Fin 384 → Fin 224 → Fin 224 → ℝ) (K : Fin 384 → Fin 9 → ℝ)
  (hx : ∀ b ch p q, x (ix4 b ch p q) = (X b ch p q : EReal))
  (hw : ∀ (ch : Fin 384) (i j : Fin 3) (t : Fin 9), t.val = 3 * i.val + j.val → w (ix4 ch (0 : Fin 1) i j) = (K ch t : EReal))

include hx hw in
/-- The reference's scores of a batch are the scores of its images. -/
theorem row_eq (b : Fin 4) : RefGate.row x w b = fun j => ((score (X b j) (K j) : ℝ) : EReal) :=
  funext fun j => RefScore.refScore_at x w b j (X b j) (K j) (hx b j) (fun p q => hw j p q _ rfl)

include hx hw in
/-- The kernel's result is the reference's. -/
theorem kernel_eq_reference :
    scaledBy (weightsOf (scoreRows X K)) x = val_main_v89 (F := Ideal) x w := by
  funext i
  obtain ⟨b, ch, p, q, rfl⟩ : ∃ (b : Fin 4) (ch : Fin 384) (p q : Fin 224), i = ix4 b ch p q :=
    ⟨i 0, i 1, i 2, i 3, by idx_ext⟩
  have hr := row_eq x w X K hx hw b
  have hs := RefGate.scatter_at x w b ch (fun j => ⟨score (X b j) (K j), congrFun hr j⟩)
  rw [RefGate.result_at, hs, hr, mul_comm]
  rfl

end Cert.Proof.Equation

end
-- ==== Proof.lean ====
/-
  The claim, assembled: the three frames, the named constant of the idealized kernel, and the equation of the kernel's
  result with the reference's (`algebraic`). What the value modules under `Proof/` state:
    Rank, ConvSum, Gate, Score   the mathematics of one block of each region: ranks, sums, weights, scores
    ScoreArray, GateArray, ScaleArray   what each region leaves in its array
    Entry, KernelRun   what the kernel's whole run leaves in its result
    RefScore, RefGate   what the reference computes
    Finite   what the precondition says
    Equation   the kernel's result is the reference's
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Finite
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's program terminates, leaves its arguments alone and leaves every counter at zero. -/
theorem frameKernel : Cert.quiescent_Kernel := fun m ρ _ => Cert.Kernel.Gen.frame m ρ

/-- The idealized kernel's program terminates, leaves its arguments alone and leaves every counter at zero. -/
theorem frameKernelIdeal : Cert.quiescent_KernelIdeal := fun m ρ _ => Cert.KernelIdeal.Gen.frame m ρ

/-- The reference terminates, leaves its arguments alone and leaves every counter at zero. -/
theorem frameReference : Cert.quiescent_ReferenceIdeal := fun m ρ _ =>
  (θ_run _ _ _).mono (fun _ h => ⟨fun c => (h c).2, sem_eq_zero_of_no_sems rfl _⟩) (Cert.ReferenceIdeal.Value.run m ρ)

/-- The one rewritten constant of the idealized kernel is the one its name stands for. -/
theorem preserves : Cert.preserves_Kernel_KernelIdeal :=
  IdealRules.named_const.statement Cert.KernelIdeal.κ "inv_hw" .f32 0x37A72F05#32 ((1 / 50176 : ℝ) : EReal) rfl

/-- The kernel and the reference, from memories agreeing on finite arguments, end with equal results. -/
theorem algebraic : Cert.algebraic_KernelIdeal_ReferenceIdeal_pre_finite := fun m g m' g' hpre hargs => by
  refine ⟨fun c => Cert.KernelIdeal.Gen.W5 m g c (Proc.devRef .tc Cert.KernelIdeal.main_v0), KernelRun.run m g, ?_⟩
  refine (θ_run _ _ _).mono (fun _ h c => ⟨(h c).1.trans ?_, (h c).2⟩) (Cert.ReferenceIdeal.Value.run m' g')
  obtain ⟨X, hx⟩ := Finite.images _ _ (hpre c)
  obtain ⟨K, hw⟩ := Finite.taps _ _ (hpre c)
  rw [Cert.ReferenceIdeal.Read.val_main_v89_eq, (hargs c).1, (hargs c).2]
  exact ((Entry.result m g c X K hx hw).trans (Equation.kernel_eq_reference _ _ X K hx hw)).symm

/-- The frames of the three programs, the named constant, and the equal results. -/
theorem claim : Cert.Claim := ⟨Cert.Kernel.Gen.facts, Cert.KernelIdeal.Gen.facts, Cert.ReferenceIdeal.Gen.facts,
  Cert.Pre_finite.Gen.facts, frameKernel, frameKernelIdeal, fun m ρ _ => frameKernelIdeal m ρ trivial, frameReference,
  fun m ρ _ => frameReference m ρ trivial, preserves, algebraic⟩

end Cert.Proof

end
